-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ramps [hPre_ramps : Cert.Pre_ramps.Facts] (m : (ℓ : Loc Cert.KernelIdeal.nD Cert.KernelIdeal.τ Cert.KernelIdeal.sig) → Buf (Elt Ideal) ℓ) : Prop :=
  ∀ c : Dev Cert.KernelIdeal.nD,
    (Cert.Pre_ramps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ramps [hPre_ramps : Cert.Pre_ramps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ramps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ramps [hKernelIdeal : Cert.KernelIdeal.Facts] [hPre_ramps : Cert.Pre_ramps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ramps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ramps [hReferenceIdeal : Cert.ReferenceIdeal.Facts] [hPre_ramps : Cert.Pre_ramps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ramps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ramps [hKernelIdeal : Cert.KernelIdeal.Facts] [hReferenceIdeal : Cert.ReferenceIdeal.Facts] [hPre_ramps : Cert.Pre_ramps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ramps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ramps : Cert.Pre_ramps.Facts),
    quiescent_Kernel (hKernel := hKernel)
    ∧ quiescent_KernelIdeal (hKernelIdeal := hKernelIdeal)
    ∧ quiescent_KernelIdeal_pre_ramps (hKernelIdeal := hKernelIdeal) (hPre_ramps := hPre_ramps)
    ∧ quiescent_ReferenceIdeal (hReferenceIdeal := hReferenceIdeal)
    ∧ quiescent_ReferenceIdeal_pre_ramps (hReferenceIdeal := hReferenceIdeal) (hPre_ramps := hPre_ramps)
    ∧ preserves_Kernel_KernelIdeal
    ∧ algebraic_KernelIdeal_ReferenceIdeal_pre_ramps (hKernelIdeal := hKernelIdeal) (hReferenceIdeal := hReferenceIdeal) (hPre_ramps := hPre_ramps)
-- ==== Pre_ramps.lean ====
abbrev S8x32x96x96 : Shape := ⟨4, ![8, 32, 96, 96]⟩
abbrev S64x32x3x3x3 : Shape := ⟨5, ![64, 32, 3, 3, 3]⟩
abbrev S64x32x3x3x1 : Shape := ⟨5, ![64, 32, 3, 3, 1]⟩
abbrev S64x32x3x3 : Shape := ⟨4, ![64, 32, 3, 3]⟩
abbrev S_ : Shape := ⟨0, ![]⟩

class Facts : Prop where
  slices_S64x32x3x3x3_S64x32x3x3x1_0_0_0_0_0 : S64x32x3x3x3.Slices ![0, 0, 0, 0, 0] S64x32x3x3x1
  shapeCasts_S64x32x3x3x1_S64x32x3x3 : S64x32x3x3x1.ShapeCasts S64x32x3x3
  slices_S64x32x3x3x3_S64x32x3x3x1_0_0_0_0_1 : S64x32x3x3x3.Slices ![0, 0, 0, 0, 1] S64x32x3x3x1
  slices_S64x32x3x3x3_S64x32x3x3x1_0_0_0_0_2 : S64x32x3x3x3.Slices ![0, 0, 0, 0, 2] S64x32x3x3x1
  bcast_S_S64x32x3x3 : S_.BroadcastsInDim S64x32x3x3 (![] : Fin 0 → Fin S64x32x3x3.rank)

variable [Facts]

def fn_part1 {F : FTy → Type} [FloatOps F] (main_v1 : FVec F S64x32x3x3 .f32) (main_v3 : FVec F S64x32x3x3 .f32) (main_v5 : FVec F S64x32x3x3 .f32) (main_v19 : IVec S64x32x3x3 1) (main_v20 : FVec F S64x32x3x3 .f32) : IVec S64x32x3x3 1 :=
  let main_cst_2 : FVec F S_ .f32 := constant S_ .f32 0x3F000000#32
  let main_v21 : FVec F S64x32x3x3 .f32 := broadcastInDim S64x32x3x3 ![] bcast_S_S64x32x3x3 main_cst_2
  let main_v22 : FVec F S64x32x3x3 .f32 := mulf main_v21 main_v20
  let main_v23 : IVec S64x32x3x3 1 := cmpf .oeq main_v3 main_v22
  let main_v24 : IVec S64x32x3x3 1 := andi main_v19 main_v23
  let main_v25 : FVec F S64x32x3x3 .f32 := Host.absf main_v1
  let main_cst_3 : FVec F S_ .f32 := constant S_ .f32 0x7F800000#32
  let main_v26 : FVec F S64x32x3x3 .f32 := broadcastInDim S64x32x3x3 ![] bcast_S_S64x32x3x3 main_cst_3
  let main_v27 : IVec S64x32x3x3 1 := cmpf .olt main_v25 main_v26
  let main_v28 : IVec S64x32x3x3 1 := andi main_v24 main_v27
  let main_v29 : FVec F S64x32x3x3 .f32 := Host.absf main_v5
  let main_cst_4 : FVec F S_ .f32 := constant S_ .f32 0x7F800000#32
  let main_v30 : FVec F S64x32x3x3 .f32 := broadcastInDim S64x32x3x3 ![] bcast_S_S64x32x3x3 main_cst_4
  let main_v31 : IVec S64x32x3x3 1 := cmpf .olt main_v29 main_v30
  let main_v32 : IVec S64x32x3x3 1 := andi main_v28 main_v31
  main_v32

def fn {F : FTy → Type} [FloatOps F] (main_arg0 : FVec F S8x32x96x96 .f32) (main_arg1 : FVec F S64x32x3x3x3 .f32) (main_arg2 : FVec F S64x32x3x3x3 .f32) : IVec S64x32x3x3 1 :=
  let main_v0 : FVec F S64x32x3x3x1 .f32 := (extractStridedSlice S64x32x3x3x1 ![0, 0, 0, 0, 0] · slices_S64x32x3x3x3_S64x32x3x3x1_0_0_0_0_0) main_arg2
  let main_v1 : FVec F S64x32x3x3 .f32 := shapeCast S64x32x3x3 main_v0 shapeCasts_S64x32x3x3x1_S64x32x3x3
  let main_v2 : FVec F S64x32x3x3x1 .f32 := (extractStridedSlice S64x32x3x3x1 ![0, 0, 0, 0, 1] · slices_S64x32x3x3x3_S64x32x3x3x1_0_0_0_0_1) main_arg2
  let main_v3 : FVec F S64x32x3x3 .f32 := shapeCast S64x32x3x3 main_v2 shapeCasts_S64x32x3x3x1_S64x32x3x3
  let main_v4 : FVec F S64x32x3x3x1 .f32 := (extractStridedSlice S64x32x3x3x1 ![0, 0, 0, 0, 2] · slices_S64x32x3x3x3_S64x32x3x3x1_0_0_0_0_2) main_arg2
  let main_v5 : FVec F S64x32x3x3 .f32 := shapeCast S64x32x3x3 main_v4 shapeCasts_S64x32x3x3x1_S64x32x3x3
  let main_v6 : FVec F S64x32x3x3x1 .f32 := (extractStridedSlice S64x32x3x3x1 ![0, 0, 0, 0, 0] · slices_S64x32x3x3x3_S64x32x3x3x1_0_0_0_0_0) main_arg1
  let main_v7 : FVec F S64x32x3x3 .f32 := shapeCast S64x32x3x3 main_v6 shapeCasts_S64x32x3x3x1_S64x32x3x3
  let main_cst : FVec F S_ .f32 := constant S_ .f32 0xBF800000#32
  let main_v8 : FVec F S64x32x3x3 .f32 := broadcastInDim S64x32x3x3 ![] bcast_S_S64x32x3x3 main_cst
  let main_v9 : IVec S64x32x3x3 1 := cmpf .oeq main_v7 main_v8
  let main_v10 : FVec F S64x32x3x3x1 .f32 := (extractStridedSlice S64x32x3x3x1 ![0, 0, 0, 0, 1] · slices_S64x32x3x3x3_S64x32x3x3x1_0_0_0_0_1) main_arg1
  let main_v11 : FVec F S64x32x3x3 .f32 := shapeCast S64x32x3x3 main_v10 shapeCasts_S64x32x3x3x1_S64x32x3x3
  let main_cst_0 : FVec F S_ .f32 := constant S_ .f32 0x00000000#32
  let main_v12 : FVec F S64x32x3x3 .f32 := broadcastInDim S64x32x3x3 ![] bcast_S_S64x32x3x3 main_cst_0
  let main_v13 : IVec S64x32x3x3 1 := cmpf .oeq main_v11 main_v12
  let main_v14 : IVec S64x32x3x3 1 := andi main_v9 main_v13
  let main_v15 : FVec F S64x32x3x3x1 .f32 := (extractStridedSlice S64x32x3x3x1 ![0, 0, 0, 0, 2] · slices_S64x32x3x3x3_S64x32x3x3x1_0_0_0_0_2) main_arg1
  let main_v16 : FVec F S64x32x3x3 .f32 := shapeCast S64x32x3x3 main_v15 shapeCasts_S64x32x3x3x1_S64x32x3x3
  let main_cst_1 : FVec F S_ .f32 := constant S_ .f32 0x3F800000#32
  let main_v17 : FVec F S64x32x3x3 .f32 := broadcastInDim S64x32x3x3 ![] bcast_S_S64x32x3x3 main_cst_1
  let main_v18 : IVec S64x32x3x3 1 := cmpf .oeq main_v16 main_v17
  let main_v19 : IVec S64x32x3x3 1 := andi main_v14 main_v18
  let main_v20 : FVec F S64x32x3x3 .f32 := addf main_v1 main_v5
  fn_part1 (F := F) main_v1 main_v3 main_v5 main_v19 main_v20
-- ==== Kernel.lean ====
abbrev S8x32x96x96 : Shape := ⟨4, ![8, 32, 96, 96]⟩
abbrev S64x32x3x3x3 : Shape := ⟨5, ![64, 32, 3, 3, 3]⟩
abbrev S3x64x3x3x32 : Shape := ⟨5, ![3, 64, 3, 3, 32]⟩
abbrev S3x64x288 : Shape := ⟨3, ![3, 64, 288]⟩
abbrev S_ : Shape := ⟨0, ![]⟩
abbrev S8x32x98x128 : Shape := ⟨4, ![8, 32, 98, 128]⟩
abbrev S8x32x12544 : Shape := ⟨3, ![8, 32, 12544]⟩
abbrev S8x32x12672 : Shape := ⟨3, ![8, 32, 12672]⟩
abbrev S8x64x12288 : Shape := ⟨3, ![8, 64, 12288]⟩
abbrev S1x32x12672 : Shape := ⟨3, ![1, 32, 12672]⟩
abbrev S1x64x1024 : Shape := ⟨3, ![1, 64, 1024]⟩
abbrev S1x64x288 : Shape := ⟨3, ![1, 64, 288]⟩
abbrev S64x288 : Shape := ⟨2, ![64, 288]⟩
abbrev S64 : Shape := ⟨1, ![64]⟩
abbrev S64x1 : Shape := ⟨2, ![64, 1]⟩
abbrev S1x32x1408 : Shape := ⟨3, ![1, 32, 1408]⟩
abbrev S32x1408 : Shape := ⟨2, ![32, 1408]⟩
abbrev S32x1024 : Shape := ⟨2, ![32, 1024]⟩
abbrev S288x1024 : Shape := ⟨2, ![288, 1024]⟩
abbrev S64x1024 : Shape := ⟨2, ![64, 1024]⟩
abbrev S8x64x96x128 : Shape := ⟨4, ![8, 64, 96, 128]⟩
abbrev S8x64x96x96 : Shape := ⟨4, ![8, 64, 96, 96]⟩

abbrev nBuf : Space → Nat
  | .hbm => 15
  | .vmem => 5
  | .smem => 0
  | _ => 0

abbrev bufTy : (tb : Table) → Fin (tcTables nBuf tb) → BufTy
  | .hbm, ⟨0, _⟩ => ⟨S8x32x96x96, .f32⟩
  | .hbm, ⟨1, _⟩ => ⟨S64x32x3x3x3, .f32⟩
  | .hbm, ⟨2, _⟩ => ⟨S64x32x3x3x3, .f32⟩
  | .hbm, ⟨3, _⟩ => ⟨S3x64x3x3x32, .f32⟩
  | .hbm, ⟨4, _⟩ => ⟨S3x64x288, .f32⟩
  | .hbm, ⟨5, _⟩ => ⟨S_, .i32⟩
  | .hbm, ⟨6, _⟩ => ⟨S_, .f32⟩
  | .hbm, ⟨7, _⟩ => ⟨S8x32x98x128, .f32⟩
  | .hbm, ⟨8, _⟩ => ⟨S8x32x12544, .f32⟩
  | .hbm, ⟨9, _⟩ => ⟨S_, .i32⟩
  | .hbm, ⟨10, _⟩ => ⟨S_, .f32⟩
  | .hbm, ⟨11, _⟩ => ⟨S8x32x12672, .f32⟩
  | .hbm, ⟨12, _⟩ => ⟨S8x64x12288, .f32⟩
  | .hbm, ⟨13, _⟩ => ⟨S8x64x96x128, .f32⟩
  | .hbm, ⟨14, _⟩ => ⟨S8x64x96x96, .f32⟩
  | .local _ .vmem, ⟨0, _⟩ => ⟨S3x64x288, .f32⟩
  | .local _ .vmem, ⟨1, _⟩ => ⟨S1x32x12672, .f32⟩
  | .local _ .vmem, ⟨2, _⟩ => ⟨S1x32x12672, .f32⟩
  | .local _ .vmem, ⟨3, _⟩ => ⟨S1x64x1024, .f32⟩
  | .local _ .vmem, ⟨4, _⟩ => ⟨S1x64x1024, .f32⟩
  | _, _ => ⟨S8x32x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 12], ![false, false]⟩

def k0_off1 (i : grid0.Coords) : Fin 3 → Nat :=
  let c0_3 : Index := 0#32
  let c0_4 : Index := 0#32
  let arg1 : BitVec 32 := BitVec.ofNat 32 (i 1).val
  let c1024_i32 : BitVec 32 := 1024#32
  let v13 : BitVec 32 := Scalar.muli arg1 c1024_i32
  let v14 : Index := Scalar.indexCast v13
  ![0, 0, v14.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S3x64x288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x12672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S8x32x96x96 : Shape := ⟨4, ![8, 32, 96, 96]⟩
abbrev S64x32x3x3x3 : Shape := ⟨5, ![64, 32, 3, 3, 3]⟩
abbrev S_ : Shape := ⟨0, ![]⟩
abbrev S8x32x98x98 : Shape := ⟨4, ![8, 32, 98, 98]⟩
abbrev S8x32x1x96x96 : Shape := ⟨5, ![8, 32, 1, 96, 96]⟩
abbrev S8x32x9x96x96 : Shape := ⟨5, ![8, 32, 9, 96, 96]⟩
abbrev S8x288x9216 : Shape := ⟨3, ![8, 288, 9216]⟩
abbrev S64x288x3 : Shape := ⟨3, ![64, 288, 3]⟩
abbrev S64x288x2 : Shape := ⟨3, ![64, 288, 2]⟩
abbrev S288x8x9216 : Shape := ⟨3, ![288, 8, 9216]⟩
abbrev S288x64x3 : Shape := ⟨3, ![288, 64, 3]⟩
abbrev S288x64x2 : Shape := ⟨3, ![288, 64, 2]⟩
abbrev S8x64x9216 : Shape := ⟨3, ![8, 64, 9216]⟩
abbrev S1x8x9216 : Shape := ⟨3, ![1, 8, 9216]⟩
abbrev S8x9216 : Shape := ⟨2, ![8, 9216]⟩
abbrev S1x64x3 : Shape := ⟨3, ![1, 64, 3]⟩
abbrev S64x3 : Shape := ⟨2, ![64, 3]⟩
abbrev S1x64x2 : Shape := ⟨3, ![1, 64, 2]⟩
abbrev S64x2 : Shape := ⟨2, ![64, 2]⟩
abbrev S64x1 : Shape := ⟨2, ![64, 1]⟩
abbrev S64 : Shape := ⟨1, ![64]⟩
abbrev S1x64x1 : Shape := ⟨3, ![1, 64, 1]⟩
abbrev S8x1x9216 : Shape := ⟨3, ![8, 1, 9216]⟩
abbrev S8x64x96x96 : Shape := ⟨4, ![8, 64, 96, 96]⟩

abbrev nBuf : Space → Nat
  | .hbm => 134
  | .vmem => 0
  | .smem => 0
  | _ => 0

abbrev hbmTy0_0 (i : Nat) : BufTy := match i % 128 with
  | 0 => ⟨S8x32x96x96, .f32⟩
  | 1 => ⟨S64x32x3x3x3, .f32⟩
  | 2 => ⟨S64x32x3x3x3, .f32⟩
  | 3 => ⟨S_, .i32⟩
  | 4 => ⟨S_, .f32⟩
  | 5 => ⟨S8x32x98x98, .f32⟩
  | 6 => ⟨S8x32x96x96, .f32⟩
  | 7 => ⟨S8x32x96x96, .f32⟩
  | 8 => ⟨S8x32x96x96, .f32⟩
  | 9 => ⟨S8x32x96x96, .f32⟩
  | 10 => ⟨S8x32x96x96, .f32⟩
  | 11 => ⟨S8x32x96x96, .f32⟩
  | 12 => ⟨S8x32x96x96, .f32⟩
  | 13 => ⟨S8x32x96x96, .f32⟩
  | 14 => ⟨S8x32x96x96, .f32⟩
  | 15 => ⟨S8x32x1x96x96, .f32⟩
  | 16 => ⟨S8x32x1x96x96, .f32⟩
  | 17 => ⟨S8x32x1x96x96, .f32⟩
  | 18 => ⟨S8x32x1x96x96, .f32⟩
  | 19 => ⟨S8x32x1x96x96, .f32⟩
  | 20 => ⟨S8x32x1x96x96, .f32⟩
  | 21 => ⟨S8x32x1x96x96, .f32⟩
  | 22 => ⟨S8x32x1x96x96, .f32⟩
  | 23 => ⟨S8x32x1x96x96, .f32⟩
  | 24 => ⟨S8x32x9x96x96, .f32⟩
  | 25 => ⟨S8x288x9216, .f32⟩
  | 26 => ⟨S64x288x3, .f32⟩
  | 27 => ⟨S64x288x3, .f32⟩
  | 28 => ⟨S64x288x2, .f32⟩
  | 29 => ⟨S64x288x2, .f32⟩
  | 30 => ⟨S64x288x2, .f32⟩
  | 31 => ⟨S64x288x2, .f32⟩
  | 32 => ⟨S64x288x2, .f32⟩
  | 33 => ⟨S64x288x2, .f32⟩
  | 34 => ⟨S_, .f32⟩
  | 35 => ⟨S64x288x2, .f32⟩
  | 36 => ⟨S64x288x2, .i1⟩
  | 37 => ⟨S_, .f32⟩
  | 38 => ⟨S64x288x2, .f32⟩
  | 39 => ⟨S64x288x2, .i1⟩
  | 40 => ⟨S_, .f32⟩
  | 41 => ⟨S_, .f32⟩
  | 42 => ⟨S64x288x2, .f32⟩
  | 43 => ⟨S64x288x2, .f32⟩
  | 44 => ⟨S64x288x2, .f32⟩
  | 45 => ⟨S_, .f32⟩
  | 46 => ⟨S_, .f32⟩
  | 47 => ⟨S64x288x2, .f32⟩
  | 48 => ⟨S64x288x2, .f32⟩
  | 49 => ⟨S288x8x9216, .f32⟩
  | 50 => ⟨S288x64x3, .f32⟩
  | 51 => ⟨S288x64x3, .f32⟩
  | 52 => ⟨S288x64x2, .f32⟩
  | 53 => ⟨S_, .f32⟩
  | 54 => ⟨S8x64x9216, .f32⟩
  | 55 => ⟨S_, .i32⟩
  | 56 => ⟨S288x8x9216, .f32⟩
  | 57 => ⟨S288x64x3, .f32⟩
  | 58 => ⟨S288x64x3, .f32⟩
  | 59 => ⟨S288x64x2, .f32⟩
  | 60 => ⟨S_, .i32⟩
  | 61 => ⟨S8x64x9216, .f32⟩
  | 62 => ⟨S_, .i32⟩
  | 63 => ⟨S_, .i1⟩
  | 64 => ⟨S_, .i32⟩
  | 65 => ⟨S_, .i32⟩
  | 66 => ⟨S1x8x9216, .f32⟩
  | 67 => ⟨S8x9216, .f32⟩
  | 68 => ⟨S_, .i32⟩
  | 69 => ⟨S_, .i32⟩
  | 70 => ⟨S1x64x3, .f32⟩
  | 71 => ⟨S64x3, .f32⟩
  | 72 => ⟨S_, .i32⟩
  | 73 => ⟨S_, .i32⟩
  | 74 => ⟨S1x64x3, .f32⟩
  | 75 => ⟨S64x3, .f32⟩
  | 76 => ⟨S_, .i32⟩
  | 77 => ⟨S_, .i32⟩
  | 78 => ⟨S1x64x2, .f32⟩
  | 79 => ⟨S64x2, .f32⟩
  | 80 => ⟨S64x1, .f32⟩
  | 81 => ⟨S64, .f32⟩
  | 82 => ⟨S1x64x1, .f32⟩
  | 83 => ⟨S8x64x9216, .f32⟩
  | 84 => ⟨S8x1x9216, .f32⟩
  | 85 => ⟨S64x1, .f32⟩
  | 86 => ⟨S64, .f32⟩
  | 87 => ⟨S1x64x1, .f32⟩
  | 88 => ⟨S64x1, .f32⟩
  | 89 => ⟨S64, .f32⟩
  | 90 => ⟨S1x64x1, .f32⟩
  | 91 => ⟨S8x64x9216, .f32⟩
  | 92 => ⟨S8x64x9216, .f32⟩
  | 93 => ⟨S8x64x9216, .f32⟩
  | 94 => ⟨S8x64x9216, .f32⟩
  | 95 => ⟨S8x64x9216, .f32⟩
  | 96 => ⟨S64x1, .f32⟩
  | 97 => ⟨S64, .f32⟩
  | 98 => ⟨S1x64x1, .f32⟩
  | 99 => ⟨S64x1, .f32⟩
  | 100 => ⟨S64, .f32⟩
  | 101 => ⟨S1x64x1, .f32⟩
  | 102 => ⟨S8x64x9216, .f32⟩
  | 103 => ⟨S8x64x9216, .f32⟩
  | 104 => ⟨S8x64x9216, .f32⟩
  | 105 => ⟨S8x64x9216, .f32⟩
  | 106 => ⟨S8x64x9216, .f32⟩
  | 107 => ⟨S8x1x9216, .f32⟩
  | 108 => ⟨S64x1, .f32⟩
  | 109 => ⟨S64, .f32⟩
  | 110 => ⟨S1x64x1, .f32⟩
  | 111 => ⟨S64x1, .f32⟩
  | 112 => ⟨S64, .f32⟩
  | 113 => ⟨S1x64x1, .f32⟩
  | 114 => ⟨S8x64x9216, .f32⟩
  | 115 => ⟨S8x64x9216, .f32⟩
  | 116 => ⟨S8x64x9216, .f32⟩
  | 117 => ⟨S8x64x9216, .f32⟩
  | 118 => ⟨S8x64x9216, .f32⟩
  | 119 => ⟨S64x1, .f32⟩
  | 120 => ⟨S64, .f32⟩
  | 121 => ⟨S1x64x1, .f32⟩
  | 122 => ⟨S64x1, .f32⟩
  | 123 => ⟨S64, .f32⟩
  | 124 => ⟨S1x64x1, .f32⟩
  | 125 => ⟨S8x64x9216, .f32⟩
  | 126 => ⟨S8x64x9216, .f32⟩
  | 127 => ⟨S8x64x9216, .f32⟩
  | _ => ⟨S8x32x96x96, .f32⟩

abbrev hbmTy0_1 (i : Nat) : BufTy := match i % 128 with
  | 0 => ⟨S8x64x9216, .f32⟩
  | 1 => ⟨S8x64x9216, .f32⟩
  | 2 => ⟨S8x64x9216, .f32⟩
  | 3 => ⟨S_, .i32⟩
  | 4 => ⟨S_, .i32⟩
  | 5 => ⟨S8x64x96x96, .f32⟩
  | _ => ⟨S8x32x96x96, .f32⟩

abbrev hbmTy (i : Nat) : BufTy := match i / 128 with
  | 0 => hbmTy0_0 i
  | 1 => hbmTy0_1 i
  | _ => ⟨S8x32x96x96, .f32⟩

abbrev bufTy : (tb : Table) → Fin (tcTables nBuf tb) → BufTy
  | .hbm, ⟨i, _⟩ => hbmTy i
  | _, _ => ⟨S8x32x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_call2_v0 : Ref sig .tc := ⟨.hbm, 46, rfl⟩
abbrev main_call2_v1 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_c_4 : Ref sig .tc := ⟨.hbm, 55, rfl⟩
abbrev main_v41_0 : Ref sig .tc := ⟨.hbm, 56, rfl⟩
abbrev main_v41_1 : Ref sig .tc := ⟨.hbm, 57, rfl⟩
abbrev main_v41_2 : Ref sig .tc := ⟨.hbm, 58, rfl⟩
abbrev main_v41_3 : Ref sig .tc := ⟨.hbm, 59, rfl⟩
abbrev main_v41_4 : Ref sig .tc := ⟨.hbm, 60, rfl⟩
abbrev main_v41_5 : Ref sig .tc := ⟨.hbm, 61, rfl⟩
abbrev main_while0c_c_10 : Ref sig .tc := ⟨.hbm, 62, rfl⟩
abbrev main_while0c_v43 : Ref sig .tc := ⟨.hbm, 63, rfl⟩
abbrev main_while0b_call3_c : Ref sig .tc := ⟨.hbm, 64, rfl⟩
abbrev main_while0b_call3_c_0 : Ref sig .tc := ⟨.hbm, 65, rfl⟩
abbrev main_while0b_call3_v0 : Ref sig .tc := ⟨.hbm, 66, rfl⟩
abbrev main_while0b_v43 : Ref sig .tc := ⟨.hbm, 67, rfl⟩
abbrev main_while0b_call4_c : Ref sig .tc := ⟨.hbm, 68, rfl⟩
abbrev main_while0b_call4_c_0 : Ref sig .tc := ⟨.hbm, 69, rfl⟩
abbrev main_while0b_call4_v0 : Ref sig .tc := ⟨.hbm, 70, rfl⟩
abbrev main_while0b_v44 : Ref sig .tc := ⟨.hbm, 71, rfl⟩
abbrev main_while0b_call5_c : Ref sig .tc := ⟨.hbm, 72, rfl⟩
abbrev main_while0b_call5_c_0 : Ref sig .tc := ⟨.hbm, 73, rfl⟩
abbrev main_while0b_call5_v0 : Ref sig .tc := ⟨.hbm, 74, rfl⟩
abbrev main_while0b_v45 : Ref sig .tc := ⟨.hbm, 75, rfl⟩
abbrev main_while0b_call6_c : Ref sig .tc := ⟨.hbm, 76, rfl⟩
abbrev main_while0b_call6_c_0 : Ref sig .tc := ⟨.hbm, 77, rfl⟩
abbrev main_while0b_call6_v0 : Ref sig .tc := ⟨.hbm, 78, rfl⟩
abbrev main_while0b_v46 : Ref sig .tc := ⟨.hbm, 79, rfl⟩
abbrev main_while0b_v47 : Ref sig .tc := ⟨.hbm, 80, rfl⟩
abbrev main_while0b_v48 : Ref sig .tc := ⟨.hbm, 81, rfl⟩
abbrev main_while0b_v49 : Ref sig .tc := ⟨.hbm, 82, rfl⟩
abbrev main_while0b_v50 : Ref sig .tc := ⟨.hbm, 83, rfl⟩
abbrev main_while0b_v51 : Ref sig .tc := ⟨.hbm, 84, rfl⟩
abbrev main_while0b_v52 : Ref sig .tc := ⟨.hbm, 85, rfl⟩
abbrev main_while0b_v53 : Ref sig .tc := ⟨.hbm, 86, rfl⟩
abbrev main_while0b_v54 : Ref sig .tc := ⟨.hbm, 87, rfl⟩
abbrev main_while0b_v55 : Ref sig .tc := ⟨.hbm, 88, rfl⟩
abbrev main_while0b_v56 : Ref sig .tc := ⟨.hbm, 89, rfl⟩
abbrev main_while0b_v57 : Ref sig .tc := ⟨.hbm, 90, rfl⟩
abbrev main_while0b_call7_v0 : Ref sig .tc := ⟨.hbm, 91, rfl⟩
abbrev main_while0b_call7_v1 : Ref sig .tc := ⟨.hbm, 92, rfl⟩
abbrev main_while0b_call7_v2 : Ref sig .tc := ⟨.hbm, 93, rfl⟩
abbrev main_while0b_call7_v3 : Ref sig .tc := ⟨.hbm, 94, rfl⟩
abbrev main_while0b_v58 : Ref sig .tc := ⟨.hbm, 95, rfl⟩
abbrev main_while0b_v59 : Ref sig .tc := ⟨.hbm, 96, rfl⟩
abbrev main_while0b_v60 : Ref sig .tc := ⟨.hbm, 97, rfl⟩
abbrev main_while0b_v61 : Ref sig .tc := ⟨.hbm, 98, rfl⟩
abbrev main_while0b_v62 : Ref sig .tc := ⟨.hbm, 99, rfl⟩
abbrev main_while0b_v63 : Ref sig .tc := ⟨.hbm, 100, rfl⟩
abbrev main_while0b_v64 : Ref sig .tc := ⟨.hbm, 101, rfl⟩
abbrev main_while0b_v65 : Ref sig .tc := ⟨.hbm, 102, rfl⟩
abbrev main_while0b_v66 : Ref sig .tc := ⟨.hbm, 103, rfl⟩
abbrev main_while0b_v67 : Ref sig .tc := ⟨.hbm, 104, rfl⟩
abbrev main_while0b_v68 : Ref sig .tc := ⟨.hbm, 105, rfl⟩
abbrev main_while0b_v69 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_v75 : Ref sig .tc := ⟨.hbm, 112, rfl⟩
abbrev main_while0b_v76 : Ref sig .tc := ⟨.hbm, 113, rfl⟩
abbrev main_while0b_call8_v0 : Ref sig .tc := ⟨.hbm, 114, rfl⟩
abbrev main_while0b_call8_v1 : Ref sig .tc := ⟨.hbm, 115, rfl⟩
abbrev main_while0b_call8_v2 : Ref sig .tc := ⟨.hbm, 116, rfl⟩
abbrev main_while0b_call8_v3 : Ref sig .tc := ⟨.hbm, 117, rfl⟩
abbrev main_while0b_v77 : Ref sig .tc := ⟨.hbm, 118, rfl⟩
abbrev main_while0b_v78 : Ref sig .tc := ⟨.hbm, 119, rfl⟩
abbrev main_while0b_v79 : Ref sig .tc := ⟨.hbm, 120, rfl⟩
abbrev main_while0b_v80 : Ref sig .tc := ⟨.hbm, 121, rfl⟩
abbrev main_while0b_v81 : Ref sig .tc := ⟨.hbm, 122, rfl⟩
abbrev main_while0b_v82 : Ref sig .tc := ⟨.hbm, 123, rfl⟩
abbrev main_while0b_v83 : Ref sig .tc := ⟨.hbm, 124, rfl⟩
abbrev main_while0b_v84 : Ref sig .tc := ⟨.hbm, 125, rfl⟩
abbrev main_while0b_v85 : Ref sig .tc := ⟨.hbm, 126, rfl⟩
abbrev main_while0b_v86 : Ref sig .tc := ⟨.hbm, 127, rfl⟩
abbrev main_while0b_v87 : Ref sig .tc := ⟨.hbm, 128, rfl⟩
abbrev main_while0b_v88 : Ref sig .tc := ⟨.hbm, 129, rfl⟩
abbrev main_while0b_v89 : Ref sig .tc := ⟨.hbm, 130, rfl⟩
abbrev main_while0b_c_10 : Ref sig .tc := ⟨.hbm, 131, rfl⟩
abbrev main_while0b_v90 : Ref sig .tc := ⟨.hbm, 132, rfl⟩
abbrev main_v42 : Ref sig .tc := ⟨.hbm, 133, rfl⟩

abbrev nD : Nat := 1
abbrev τ : Topo := Topo.v7x

variable {F : FTy → Type} [FloatOps F]

abbrev main_while0_count : Scf.Loop 32 := ⟨0#32, 288#32, 1#32⟩
-- ==== Proof.Spec.lean ====
/-
  The mathematics both programs are compared through: the input with its border of zeros, read at any row and column, and
  the weight index of the flat position `k` of the 288 weights that one output channel applies.
-/
module

public import Idealize.ShloMosaic.Lib.Pointwise

@[expose] public section

noncomputable section

namespace Cert.Proof

open Idealize.ShloMosaic

/-- The shape of the input. -/
abbrev ShX : Shape := ⟨4, ![8, 32, 96, 96]⟩
/-- The shape of the points and of the values: output channel, input channel, tap row, tap column, point. -/
abbrev ShW : Shape := ⟨5, ![64, 32, 3, 3, 3]⟩

/-- The input with one row and one column of zeros before it and zeros after it: row `h` and column `w` count from the
    border, so the input's own first row is row 1. -/
def padded (x : ShX.Idx → EReal) (b : Fin 8) (c : Fin 32) (h w : ℕ) : EReal :=
  if g : (1 ≤ h ∧ h < 97) ∧ 1 ≤ w ∧ w < 97 then x (ix4 b c ⟨h - 1, by omega⟩ ⟨w - 1, by omega⟩) else 0

/-- The weight at flat position `k` (input channel, tap row, tap column, in this order) and point `p`. -/
def wAt (a : ShW.Idx → EReal) (o : Fin 64) (k : Fin 288) (p : Fin 3) : EReal :=
  a (ix5 o ⟨k.val / 9, by omega⟩ ⟨k.val / 3 % 3, by omega⟩ ⟨k.val % 3, by omega⟩ p)

/-- What the weight at flat position `k` sees at the output position of row `h` and column `w`. -/
def tap (x : ShX.Idx → EReal) (b : Fin 8) (k : Fin 288) (h w : ℕ) : EReal :=
  padded x b ⟨k.val / 9, by omega⟩ (h + k.val / 3 % 3) (w + k.val % 3)

/-- Inside the border the padded input is the input … -/
theorem padded_in (x : ShX.Idx → EReal) (b : Fin 8) (c : Fin 32) {h w : ℕ} (g : (1 ≤ h ∧ h - 1 < 96) ∧ 1 ≤ w ∧ w - 1 < 96) :
    padded x b c h w = x (ix4 b c ⟨h - 1, g.1.2⟩ ⟨w - 1, g.2.2⟩) := by
  have g' : (1 ≤ h ∧ h < 97) ∧ 1 ≤ w ∧ w < 97 := by omega
  unfold padded
  rw [dif_pos g']

/-- … and elsewhere it is zero. -/
theorem padded_out (x : ShX.Idx → EReal) (b : Fin 8) (c : Fin 32) {h w : ℕ} (g : ¬ ((1 ≤ h ∧ h - 1 < 96) ∧ 1 ≤ w ∧ w - 1 < 96)) :
    padded x b c h w = 0 := by
  have g' : ¬ ((1 ≤ h ∧ h < 97) ∧ 1 ≤ w ∧ w < 97) := by omega
  unfold padded
  rw [dif_neg g']

end Cert.Proof

end
-- ==== Proof.RefEntry.lean ====
/-
  What the reference's loop starts from: the unfolded input, the points, the values and the slopes, each at an index.
-/
module

public import proofs.«01_k».proof.Proof.Gen.ReferenceIdeal.Run
public import proofs.«01_k».proof.Proof.Spec
public import Idealize.ShloMosaic.Lib.StableHlo.ReadAt

@[expose] public section

set_option maxRecDepth 16384

noncomputable section

namespace Cert.Proof.RefEntry

open Idealize.ShloMosaic Idealize.ShloMosaic.TcCoe Idealize.ShloMosaic.StableHlo Idealize.SL.Sem
open Cert.ReferenceIdeal Cert.ReferenceIdeal.Gen Cert.ReferenceIdeal.Value

variable (m : (ℓ : Loc nD τ sig) → Buf (Elt Ideal) ℓ) (c : Dev nD)

/-- The input, the points and the values that the program was given. -/
abbrev argX : ShX.Idx → EReal := m ((c.tc : Thread nD τ).loc main_arg0)
abbrev argP : ShW.Idx → EReal := m ((c.tc : Thread nD τ).loc main_arg1)
abbrev argV : ShW.Idx → EReal := m ((c.tc : Thread nD τ).loc main_arg2)

/-- The points as the loop takes them. -/
theorem pos_entry (k : Fin 288) (o : Fin 64) (p : Fin 3) :
    entryContents preI m c (Proc.devRef .tc main_v41_1) (ix3 k o p) = wAt (argP m c) o k p := by
  simp only [entryContents, afterL_cons, afterL_nil]
  after_reads_at
  simp only [id_eq]
  pointwise
  rfl

/-- The values as the loop takes them. -/
theorem val_entry (k : Fin 288) (o : Fin 64) (p : Fin 3) :
    entryContents preI m c (Proc.devRef .tc main_v41_2) (ix3 k o p) = wAt (argV m c) o k p := by
  simp only [entryContents, afterL_cons, afterL_nil]
  after_reads_at
  simp only [id_eq]
  pointwise
  rfl

/-- The slope between two neighbouring points: the quotient of the differences where the points rise, zero elsewhere. -/
def slope (dv dp : EReal) : EReal := if 0 < dp then Ideal.div dv (if 0 < dp then dp else 1) else 0

/-- The slopes as the loop takes them. -/
theorem slope_entry (k : Fin 288) (o : Fin 64) (p : Fin 2) :
    entryContents preI m c (Proc.devRef .tc main_v41_3) (ix3 k o p)
      = slope (wAt (argV m c) o k ⟨1 + p.val, by omega⟩ - wAt (argV m c) o k ⟨p.val, by omega⟩)
          (wAt (argP m c) o k ⟨1 + p.val, by omega⟩ - wAt (argP m c) o k ⟨p.val, by omega⟩) := by
  simp only [entryContents, afterL_cons, afterL_nil]
  after_reads_at
  simp only [id_eq]
  pointwise
  rfl

/-- The sum starts at zero. -/
theorem acc_entry (b : Fin 8) (o : Fin 64) (s : Fin 9216) :
    entryContents preI m c (Proc.devRef .tc main_v41_5) (ix3 b o s) = (0 : EReal) := by
  simp only [entryContents, afterL_cons, afterL_nil]
  after_reads_at
  simp only [id_eq]
  pointwise

/-- The input with its border. -/
theorem pad_entry (b : Fin 8) (i : Fin 32) (h w : Fin 98) :
    after hostOps0_1 (after hostOps0 (launchContents m c)) (Proc.devRef .tc main_v0) (ix4 b i h w)
      = padded (argX m c) b i h.val w.val := by
  after_reads_at
  have hz : (FloatOps.sitofp FTy.f32 0#32 : Ideal .f32) = 0 := by
    show (((0#32 : BitVec 32).toInt : ℝ) : EReal) = 0
    simp
  by_cases h2 : (1 ≤ h.val ∧ h.val - 1 < 96) ∧ 1 ≤ w.val ∧ w.val - 1 < 96
  · exact (dif_pos h2).trans (padded_in _ _ _ h2).symm
  · exact (dif_neg h2).trans (hz.trans (padded_out _ _ _ h2).symm)

variable (V : Valuation τ sig (Elt Ideal))

/-- The nine shifted copies stacked and flattened: flat position `k` and output position `s`. -/
theorem stack_at (b : Fin 8) (k : Fin 288) (s : Fin 9216) :
    after hostOps0_2 V (Proc.devRef .tc main_v20) (ix3 b k s)
      = V (Proc.devRef .tc main_v0) (ix4 b (⟨k.val / 9, by omega⟩ : Fin 32) (⟨s.val / 96 + k.val / 3 % 3, by omega⟩ : Fin 98)
          (⟨s.val % 96 + k.val % 3, by omega⟩ : Fin 98)) := by
  after_reads_at
  rcases (by omega : k.val % 9 = 0 ∨ k.val % 9 = 1 ∨ k.val % 9 = 2 ∨ k.val % 9 = 3 ∨ k.val % 9 = 4 ∨ k.val % 9 = 5
      ∨ k.val % 9 = 6 ∨ k.val % 9 = 7 ∨ k.val % 9 = 8) with hk | hk | hk | hk | hk | hk | hk | hk | hk
  all_goals
    simp only [hk, Nat.reduceSub, Nat.reduceLT, ↓reduceDIte]
    after_reads_simp
    clean_types
    pointwise
    refine congrArg _ ?_
    congr 1 <;> exact Fin.ext (by simp only; omega)

/-- The first two axes exchanged. -/
theorem swap_at (y : S8x288x9216.Idx → EReal) (h : S8x288x9216.Transposes [1, 0, 2] S288x8x9216) (k : Fin 288) (b : Fin 8) (s : Fin 9216) :
    transpose S288x8x9216 [1, 0, 2] y h (ix3 k b s) = y (ix3 b k s) := by
  pointwise

/-- The unfolded input as the loop takes it. -/
theorem patch_entry (k : Fin 288) (b : Fin 8) (s : Fin 9216) :
    entryContents preI m c (Proc.devRef .tc main_v41_0) (ix3 k b s) = tap (argX m c) b k (s.val / 96) (s.val % 96) := by
  simp only [entryContents, afterL_cons, afterL_nil]
  generalize hV : after hostOps0_2 (after hostOps0_1 (after hostOps0 (launchContents m c))) = W
  have hW : W (Proc.devRef .tc main_v20) (ix3 b k s) = tap (argX m c) b k (s.val / 96) (s.val % 96) :=
    (congrFun (congrFun hV.symm (Proc.devRef .tc main_v20)) (ix3 b k s)).trans
      ((stack_at _ b k s).trans (pad_entry m c b _ _ _))
  refine Eq.trans ?_ hW
  after_reads_at
  refine (congrFun (id_eq _) (ix3 k b s)).trans ?_
  exact swap_at _ _ k b s

end Cert.Proof.RefEntry

end
-- ==== Proof.RefSum.lean ====
/-
  What the reference's loop adds up: one weight's function of its input per trip, 288 trips.
-/
module

public import proofs.«01_k».proof.Proof.RefEntry

@[expose] public section

set_option maxRecDepth 16384

noncomputable section

namespace Cert.Proof.RefSum

open Idealize.ShloMosaic Idealize.ShloMosaic.TcCoe Idealize.ShloMosaic.StableHlo Idealize.SL.Sem
open Cert.ReferenceIdeal Cert.ReferenceIdeal.Gen Cert.ReferenceIdeal.Value Cert.Proof.RefEntry

/-- One weight's function at the input `x`: the value at the first point and, per piece, the slope times how far the
    input reaches into the piece. -/
def piece (x p0 p1 p2 v0 s0 s1 : EReal) : EReal :=
  v0 + s0 * (min p1 (max p0 x) - p0) + s1 * (min p2 (max p1 x) - p1)

/-- A slice of one plane at a start inside the array is that plane. -/
theorem slice_plane {α : Type} {n0 n1 n2 : ℕ} (x : (⟨3, ![n0, n1, n2]⟩ : Shape).Idx → α) (start : Fin 3 → Int)
    (h : (⟨3, ![n0, n1, n2]⟩ : Shape).Slices (fun _ => 0) ⟨3, ![1, n1, n2]⟩) (k : Fin n0)
    (h0 : start 0 = k.val) (h1 : start 1 = 0) (h2 : start 2 = 0) :
    Host.dynamicSlice ⟨3, ![1, n1, n2]⟩ x start h = fun i => x (ix3 k (i 1) (i 2)) := by
  funext i
  have hi : (i 0).val < 1 := (i 0).isLt
  show x _ = x _
  congr 1
  funext a
  apply Fin.ext
  match a with
  | ⟨0, _⟩ =>
    show (min (max (start 0) 0) ((n0 - 1 : ℕ) : Int)).toNat + (i 0).val = k.val
    rw [h0]; omega
  | ⟨1, _⟩ =>
    show (min (max (start 1) 0) ((n1 - n1 : ℕ) : Int)).toNat + (i 1).val = (i 1).val
    rw [h1]; omega
  | ⟨2, _⟩ =>
    show (min (max (start 2) 0) ((n2 - n2 : ℕ) : Int)).toNat + (i 2).val = (i 2).val
    rw [h2]; omega

/-- The loop's counter, read signed, is its number. -/
theorem ctr_toInt : ∀ k : Fin 288, (BitVec.ofNat 32 k.val).toInt = (k.val : Int) := by decide

variable (V : Valuation τ sig (Elt Ideal))

/-- The unfolded input, the points, the values, the slopes and the sum so far, as arrays of extended reals. -/
abbrev xs : S288x8x9216.Idx → EReal := V (Proc.devRef .tc main_v41_0)
abbrev ps : S288x64x3.Idx → EReal := V (Proc.devRef .tc main_v41_1)
abbrev vs : S288x64x3.Idx → EReal := V (Proc.devRef .tc main_v41_2)
abbrev ss : S288x64x2.Idx → EReal := V (Proc.devRef .tc main_v41_3)
abbrev acc : S8x64x9216.Idx → EReal := V (Proc.devRef .tc main_v41_5)

/-- One trip, at the loop's counter `k`: the weight `k` is added. -/
theorem step_at (k : Fin 288) (hk : V (Proc.devRef .tc main_v41_4) = fun _ => BitVec.ofNat 32 k.val)
    (b : Fin 8) (o : Fin 64) (s : Fin 9216) :
    step_main_v41_5 V (ix3 b o s)
      = acc V (ix3 b o s) + piece (xs V (ix3 k b s)) (ps V (ix3 k o 0)) (ps V (ix3 k o 1)) (ps V (ix3 k o 2))
          (vs V (ix3 k o 0)) (ss V (ix3 k o 0)) (ss V (ix3 k o 1)) := by
  unfold step_main_v41_5 res_main_while0b_v43 res_main_while0b_v44 res_main_while0b_v46
  simp only [id_eq, hk]
  rw [slice_plane (V (Proc.devRef .tc main_v41_0)) _ _ k (ctr_toInt k) rfl rfl,
    slice_plane (V (Proc.devRef .tc main_v41_1)) _ _ k (ctr_toInt k) rfl rfl,
    slice_plane (V (Proc.devRef .tc main_v41_2)) _ _ k (ctr_toInt k) rfl rfl,
    slice_plane (V (Proc.devRef .tc main_v41_3)) _ _ k (ctr_toInt k) rfl rfl]
  pointwise
  rfl

/-- After `n` trips the arrays that the loop reads are as they were and the counter is `n`. -/
theorem iter_keeps (n : ℕ) :
    (STEP^[n] V) (Proc.devRef .tc main_v41_0) = V (Proc.devRef .tc main_v41_0)
    ∧ (STEP^[n] V) (Proc.devRef .tc main_v41_1) = V (Proc.devRef .tc main_v41_1)
    ∧ (STEP^[n] V) (Proc.devRef .tc main_v41_2) = V (Proc.devRef .tc main_v41_2)
    ∧ (STEP^[n] V) (Proc.devRef .tc main_v41_3) = V (Proc.devRef .tc main_v41_3) := by
  induction n with
  | zero => exact ⟨rfl, rfl, rfl, rfl⟩
  | succ n ih =>
    rw [Function.iterate_succ_apply', STEP_main_v41_0, STEP_main_v41_1, STEP_main_v41_2, STEP_main_v41_3]
    exact ih

/-- The counter after `n` trips. -/
theorem iter_ctr (hV : V (Proc.devRef .tc main_v41_4) = fun _ => 0#32) (n : ℕ) :
    (STEP^[n] V) (Proc.devRef .tc main_v41_4) = fun _ => BitVec.ofNat 32 n := by
  induction n with
  | zero => exact hV
  | succ n ih =>
    rw [Function.iterate_succ_apply', STEP_main_v41_4]
    unfold step_main_v41_4
    rw [ih]
    funext j
    show BitVec.ofNat 32 n + 1#32 = BitVec.ofNat 32 (n + 1)
    rw [BitVec.ofNat_add]

/-- The summand of trip `n`. -/
def term (b : Fin 8) (o : Fin 64) (s : Fin 9216) (k : Fin 288) : EReal :=
  piece (xs V (ix3 k b s)) (ps V (ix3 k o 0)) (ps V (ix3 k o 1)) (ps V (ix3 k o 2))
    (vs V (ix3 k o 0)) (ss V (ix3 k o 0)) (ss V (ix3 k o 1))

/-- After `n` trips the sum holds what it started from and the first `n` summands. -/
theorem iter_acc (hV : V (Proc.devRef .tc main_v41_4) = fun _ => 0#32) (b : Fin 8) (o : Fin 64) (s : Fin 9216) (n : ℕ)
    (hn : n ≤ 288) :
    acc (STEP^[n] V) (ix3 b o s)
      = acc V (ix3 b o s) + ∑ i ∈ Finset.range n, if h : i < 288 then term V b o s ⟨i, h⟩ else 0 := by
  induction n with
  | zero => simp
  | succ n ih =>
    obtain ⟨e0, e1, e2, e3⟩ := iter_keeps V n
    have hs := step_at (STEP^[n] V) ⟨n, by omega⟩ (iter_ctr V hV n) b o s
    unfold acc
    rw [Function.iterate_succ_apply', STEP_main_v41_5, hs, ih (by omega), Finset.sum_range_succ, dif_pos (by omega : n < 288),
      ← add_assoc]
    unfold term xs ps vs ss
    rw [e0, e1, e2, e3]

/-- The whole loop: the sum over all 288 weights. -/
theorem loop_sum (hV : V (Proc.devRef .tc main_v41_4) = fun _ => 0#32) (b : Fin 8) (o : Fin 64) (s : Fin 9216) :
    acc (STEP^[288] V) (ix3 b o s) = acc V (ix3 b o s) + ∑ k : Fin 288, term V b o s k := by
  rw [iter_acc V hV b o s 288 le_rfl, Finset.sum_range]
  congr 1

variable (m : (ℓ : Loc nD τ sig) → Buf (Elt Ideal) ℓ) (c : Dev nD)

/-- THE REFERENCE'S RESULT at batch entry `b`, channel `o`, row `h`, column `w`: the sum over the 288 weights. -/
theorem ref_at (b : Fin 8) (o : Fin 64) (h w : Fin 96) :
    out_main_v42 (STEP^[288] (entryContents preI m c)) (ix4 b o h w)
      = ∑ k : Fin 288, piece (tap (argX m c) b k h.val w.val) (wAt (argP m c) o k 0) (wAt (argP m c) o k 1)
          (wAt (argP m c) o k 2) (wAt (argV m c) o k 0)
          (slope (wAt (argV m c) o k 1 - wAt (argV m c) o k 0) (wAt (argP m c) o k 1 - wAt (argP m c) o k 0))
          (slope (wAt (argV m c) o k 2 - wAt (argV m c) o k 1) (wAt (argP m c) o k 2 - wAt (argP m c) o k 1)) := by
  have hl := loop_sum (entryContents preI m c) (ctr_entry m c) b o ⟨h.val * 96 + w.val, by omega⟩
  have ha : acc (entryContents preI m c) (ix3 b o ⟨h.val * 96 + w.val, by omega⟩) = 0 := acc_entry m c b o _
  rw [ha, zero_add] at hl
  unfold out_main_v42
  refine Eq.trans ?_ (hl.trans (Finset.sum_congr rfl fun k _ => ?_))
  · generalize STEP^[288] (entryContents preI m c) = W
    clean_types
    pointwise
  · unfold term xs ps vs ss
    rw [patch_entry, pos_entry, pos_entry, pos_entry, val_entry, slope_entry, slope_entry]
    have e1 : (h.val * 96 + w.val) / 96 = h.val := by omega
    have e2 : (h.val * 96 + w.val) % 96 = w.val := by omega
    simp only [e1, e2]
    rfl

end Cert.Proof.RefSum

end
-- ==== Proof.KernelPay.lean ====
/-
  What the kernel's body computes for one block: the bias and the product with the clipped, shifted input.
-/
module

public import proofs.«01_k».proof.Proof.Gen.KernelIdeal.Frame
public import proofs.«01_k».proof.Proof.Spec

@[expose] public section

set_option maxRecDepth 16384

noncomputable section

namespace Cert.Proof.KernelPay

open Idealize.ShloMosaic Idealize.ShloMosaic.TcCoe Idealize.SL.Sem
open Cert.KernelIdeal Cert.KernelIdeal.Gen

/-- The numerals of the body. -/
abbrev half : EReal := Ideal.ofBits FTy.f32 0x3F000000#32
abbrev negOne : EReal := Ideal.ofBits FTy.f32 0xBF800000#32

/-- A value clipped to the outer points. -/
def clip (x : EReal) : EReal := min 1 (max negOne x)

/-- The clipped block at equal places. -/
theorem clip_congr (x : S1x32x1408.Idx → EReal) {i i' : Fin 32} {n n' : Fin 1408} (hi : i.val = i'.val) (hn : n.val = n'.val) :
    min 1 (max negOne (x (ix3 0 i n))) = clip (x (ix3 0 i' n')) := by
  rw [Fin.ext hi, Fin.ext hn, clip]

/-- One element of a block: row `o` of the middle values summed, and row `o` of the half differences against the
    clipped window: row `q` of the product is tap `q / 32` (`q / 96` rows of 128 down, `q / 32 % 3` across) of channel `q % 32`. -/
theorem pay_at (v : S3x64x288.Idx → EReal) (x : S1x32x1408.Idx → EReal) (o : Fin 64) (n : Fin 1024) :
    k0_pay1 (F := Ideal) v x (ix3 0 o n)
      = (∑ q : Fin 288, v (ix3 1 o q))
        + ∑ q : Fin 288, half * (v (ix3 2 o q) - v (ix3 0 o q))
            * clip (x (ix3 0 ⟨q.val % 32, by omega⟩ ⟨q.val / 96 * 128 + q.val / 32 % 3 + n.val, by omega⟩)) := by
  unfold k0_pay1
  pointwise
  refine congrArg _ (Finset.sum_congr rfl fun q _ => congrArg _ ?_)
  have hq := q.isLt
  split_ifs <;> (refine clip_congr x ?_ ?_ <;> dsimp only <;> omega)

end Cert.Proof.KernelPay

end
-- ==== Proof.Piece.lean ====
/-
  One weight: with points -1, 0, 1 and values on a line, the two slopes and the two clips are the middle value and one
  slope times one clip.
-/
module

public import proofs.«01_k».proof.Proof.RefSum
public import proofs.«01_k».proof.Proof.KernelPay

@[expose] public section

noncomputable section

namespace Cert.Proof.Piece

open Idealize.ShloMosaic
open Cert.Proof.KernelPay (half negOne clip)

/-- The literal ½. -/
theorem half_eq : half = ((1 / 2 : ℝ) : EReal) := by
  unfold half
  simp [Ideal.ofBits, Ideal.ieee, -EReal.coe_mul, -EReal.coe_neg]; norm_num

/-- The literal −1. -/
theorem negOne_eq : negOne = ((-1 : ℝ) : EReal) := by
  unfold negOne
  simp [Ideal.ofBits, Ideal.ieee, -EReal.coe_mul, -EReal.coe_neg]; norm_num

/-- The literal +∞. -/
theorem inf_eq : Ideal.ofBits FTy.f32 0x7F800000#32 = ⊤ := by
  simp [Ideal.ofBits, Ideal.ieee]

/-- Any input, an infinite one too, has real clips, and the clip to -1, 1 is the sum of the clips to -1, 0 and to 0, 1. -/
theorem clips (x : EReal) : ∃ u w : ℝ, min (0 : EReal) (max ((-1 : ℝ) : EReal) x) = u ∧ min (1 : EReal) (max 0 x) = w
    ∧ min (1 : EReal) (max ((-1 : ℝ) : EReal) x) = ((u + w : ℝ) : EReal) := by
  induction x using EReal.rec with
  | bot =>
    refine ⟨-1, 0, ?_, by simp, ?_⟩
    · rw [max_eq_left bot_le]
      exact min_eq_right (EReal.coe_le_coe_iff.mpr (by norm_num : (-1 : ℝ) ≤ 0))
    · rw [max_eq_left bot_le, add_zero]
      exact min_eq_right (EReal.coe_le_coe_iff.mpr (by norm_num : (-1 : ℝ) ≤ 1))
  | top => exact ⟨0, 1, by simp, by simp, by simp⟩
  | coe r =>
    refine ⟨min 0 (max (-1) r), min 1 (max 0 r), ?_, ?_, ?_⟩
    · norm_cast
    · norm_cast
    · have h : min 0 (max (-1) r) + min 1 (max 0 r) = min 1 (max (-1) r) := by
        rcases le_total r (-1) with h | h <;> rcases le_total r 0 with h0 | h0 <;> rcases le_total r 1 with h1 | h1 <;>
          simp [min_def, max_def] <;> split_ifs <;> linarith
      rw [h]
      norm_cast

/-- Over a step of one the slope is the difference. -/
theorem slope_one (dv : EReal) : RefEntry.slope dv 1 = dv := by
  unfold RefEntry.slope
  rw [if_pos zero_lt_one, if_pos zero_lt_one]
  unfold Ideal.div
  rw [if_neg one_ne_zero]
  simp

/-- One weight with finite outer values on a line: middle value plus half the difference times the clipped input. -/
theorem piece_real (x : EReal) (a b : ℝ) (v1 : EReal) (hv : v1 = half * ((a : EReal) + b)) :
    RefSum.piece x negOne 0 1 a (RefEntry.slope (v1 - a) (0 - negOne)) (RefEntry.slope (b - v1) (1 - 0))
      = v1 + half * ((b : EReal) - a) * clip x := by
  obtain ⟨u, w, hu, hw, huw⟩ := clips x
  have e1 : (0 : EReal) - negOne = 1 := by rw [negOne_eq]; norm_cast
  have e2 : (1 : EReal) - 0 = 1 := by simp
  unfold RefSum.piece clip
  rw [e1, e2, slope_one, slope_one, hv, negOne_eq, half_eq, hu, hw, huw]
  norm_cast
  simp only [Int.reduceNegSucc, Int.reduceNeg, Int.cast_neg, Int.cast_one]
  ring

end Cert.Proof.Piece

end
-- ==== Proof.Pre.lean ====
/-
  What the precondition says of one weight.
-/
module

public import proofs.«01_k».proof.Pre_ramps
public import proofs.«01_k».proof.Proof.Gen.Pre_ramps
public import proofs.«01_k».proof.Proof.KernelPay
public import Idealize.ShloMosaic.Lib.Pointwise

@[expose] public section

set_option maxRecDepth 16384

noncomputable section

namespace Cert.Proof.Pre

open Idealize.ShloMosaic
open Cert.Pre_ramps

/-- Both bits of a conjunction that holds. -/
theorem andi_one {x y : BitVec 1} (h : IntOp.andi x y = 1#1) : x = 1#1 ∧ y = 1#1 := by
  revert x y; decide

/-- A decided bit that is set. -/
theorem bit_one {p : Prop} [Decidable p] (h : BitVec.ofBool (decide p) = 1#1) : p := by
  by_cases hp : p
  · exact hp
  · simp [hp] at h

/-- A value of which the absolute value is below infinity is a real number. -/
theorem real_of_abs {x : EReal} (h : max x (-x) < ⊤) : ∃ r : ℝ, x = r := by
  rw [max_lt_iff] at h
  refine ⟨x.toReal, (EReal.coe_toReal h.1.ne ?_).symm⟩
  rintro rfl
  simp at h

/-- The literal +∞. -/
theorem inf_eq : Ideal.ofBits FTy.f32 0x7F800000#32 = ⊤ := by
  simp [Ideal.ofBits, Ideal.ieee]

/-- Weight `k` of channel `o`: its points are -1, 0, 1, its outer values are real and its middle value is their mean. -/
theorem pre_at (X : ShX.Idx → EReal) (P V : ShW.Idx → EReal) (hpre : Cert.Pre_ramps.fn (F := Ideal) X P V = fun _ => 1#1)
    (o : Fin 64) (k : Fin 288) :
    wAt P o k 0 = KernelPay.negOne ∧ wAt P o k 1 = 0 ∧ wAt P o k 2 = 1
      ∧ wAt V o k 1 = KernelPay.half * (wAt V o k 0 + wAt V o k 2)
      ∧ (∃ a : ℝ, wAt V o k 0 = a) ∧ ∃ b : ℝ, wAt V o k 2 = b := by
  have h := congrFun hpre (ix4 o ⟨k.val / 9, by omega⟩ ⟨k.val / 3 % 3, by omega⟩ ⟨k.val % 3, by omega⟩)
  unfold Cert.Pre_ramps.fn Cert.Pre_ramps.fn_part1 at h
  pointwise at h
  obtain ⟨h, h6⟩ := andi_one h
  obtain ⟨h, h5⟩ := andi_one h
  obtain ⟨h, h4⟩ := andi_one h
  obtain ⟨h, h3⟩ := andi_one h
  obtain ⟨h1, h2⟩ := andi_one h
  have h5 := bit_one h5
  have h6 := bit_one h6
  rw [inf_eq] at h5 h6
  exact ⟨bit_one h1, bit_one h2, bit_one h3, bit_one h4, real_of_abs h5, real_of_abs h6⟩

end Cert.Proof.Pre

end
-- ==== Proof.KernelArray.lean ====
/-
  What the kernel's result array holds: the block that each grid point writes is a block of one function of the
  two arrays that the grid reads.
-/
module

public import proofs.«01_k».proof.Proof.Gen.KernelIdeal.Frame
public import proofs.«01_k».proof.Proof.KernelPay
public import Idealize.ShloMosaic.Lib.Pipeline.ValueKit

@[expose] public section

set_option maxRecDepth 16384

noncomputable section

namespace Cert.Proof.KernelArray

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The values and the padded input, as the grid finds them. -/
abbrev wArr : S3x64x288.Idx → EReal := V m c main_v1
abbrev xArr : S8x32x12672.Idx → EReal := V m c main_v4

/-- The result array as one function of those two. -/
def G : S8x64x12288.Idx → EReal := fun j =>
  (∑ q : Fin 288, wArr m c (ix3 1 (j 1) q))
    + ∑ q : Fin 288, KernelPay.half * (wArr m c (ix3 2 (j 1) q) - wArr m c (ix3 0 (j 1) q))
        * KernelPay.clip (xArr m c (ix3 (j 0) ⟨q.val % 32, by omega⟩
            ⟨q.val / 96 * 128 + q.val / 32 % 3 + (j 2).val, by have : (j 2).val < 12288 := (j 2).isLt; omega⟩))

/-- Where the grid point's blocks lie: batch entry `t / 12`, lane block `t % 12`; the load starts at that lane block. -/
theorem places : ∀ t : Fin grid0.N,
    (win0_0.index t 0 = 0 ∧ win0_0.index t 1 = 0 ∧ win0_0.index t 2 = 0)
    ∧ (win0_1.index t 0 = t.val / 12 ∧ win0_1.index t 1 = 0 ∧ win0_1.index t 2 = 0)
    ∧ (win0_2.index t 0 = t.val / 12 ∧ win0_2.index t 1 = 0 ∧ win0_2.index t 2 = t.val % 12)
    ∧ (k0_off1 (grid0.coords t) 0 = 0 ∧ k0_off1 (grid0.coords t) 1 = 0 ∧ k0_off1 (grid0.coords t) 2 = t.val % 12 * 1024) := by
  decide +kernel

/-- The values' block is the whole array. -/
theorem wblk_at (t : Fin cfg0.N) (p : Fin 3) (o : Fin 64) (q : Fin 288) :
    (iblk m c 0 t : S3x64x288.Idx → EReal) (ix3 p o q) = wArr m c (ix3 p o q) := by
  obtain ⟨⟨h0, h1, h2⟩, -⟩ := places t
  blk_ext [iblk, h0, h1, h2]

/-- The input's block is batch entry `t / 12`. -/
theorem xblk_at (t : Fin cfg0.N) (i : Fin 32) (n : Fin 12672) (hb : t.val / 12 < 8) :
    (iblk m c 1 t : S1x32x12672.Idx → EReal) (ix3 0 i n) = xArr m c (ix3 ⟨t.val / 12, hb⟩ i n) := by
  obtain ⟨-, ⟨h0, h1, h2⟩, -⟩ := places t
  blk_ext [iblk, h0, h1, h2]

/-- A load of it from lane `k` on. -/
theorem ld_at (X : S1x32x12672.Idx → EReal) (off : Fin 3 → ℕ) (inb : ∀ a, off a + S1x32x1408.size a ≤ S1x32x12672.size a)
    (h0 : off 0 = 0) (h1 : off 1 = 0) (i : Fin 32) (n : Fin 1408) (k : ℕ) (h2 : off 2 = k) (hn : k + n.val < 12672) :
    View.ld (Val := Elt Ideal) (e' := .f32) X (Rect.unit (s := S1x32x12672) off S1x32x1408.size inb) (ix3 0 i n)
      = X (ix3 0 i ⟨k + n.val, hn⟩) := by
  pointwise
  congr 1
  funext a
  match a with
  | ⟨0, _⟩ => exact Fin.ext (by show off 0 = 0; exact h0)
  | ⟨1, _⟩ => exact Fin.ext (by show off 1 + i.val = i.val; omega)
  | ⟨2, _⟩ => exact Fin.ext (by show off 2 + n.val = k + n.val; omega)

/-- Where the point's block lies in the result array. -/
theorem emb_at (t : Fin cfg0.N) (o : Fin 64) (n : Fin 1024) (hb : t.val / 12 < 8) (hn : t.val % 12 * 1024 + n.val < 12288) :
    ((View.whole main_v5).slice (win0_2.rect t)).emb (ix3 0 o n : S1x64x1024.Idx)
      = (ix3 ⟨t.val / 12, hb⟩ o ⟨t.val % 12 * 1024 + n.val, hn⟩ : S8x64x12288.Idx) := by
  obtain ⟨-, -, ⟨h0, h1, h2⟩, -⟩ := places t
  blk_ext [h0, h1, h2]

/-- The point's block, element by element. -/
theorem block_at (t : Fin cfg0.N) (o : Fin 64) (n : Fin 1024) (hb : t.val / 12 < 8) (hn : t.val % 12 * 1024 + n.val < 12288) :
    k0_pay1 (F := Ideal) (iblk m c 0 t) (View.ld (iblk m c 1 t) (Rect.unit (k0_off1 (grid0.coords t)) ![1, 32, 1408] (k0_off1_inb _)))
        (ix3 0 o n)
      = G m c (ix3 ⟨t.val / 12, hb⟩ o ⟨t.val % 12 * 1024 + n.val, hn⟩) := by
  obtain ⟨-, -, -, ⟨k0, k1, k2⟩⟩ := places t
  refine (KernelPay.pay_at _ _ o n).trans ?_
  unfold G
  refine congrArg₂ (· + ·) (Finset.sum_congr rfl fun q _ => wblk_at m c t 1 o q) (Finset.sum_congr rfl fun q _ => ?_)
  rw [wblk_at, wblk_at]
  refine congrArg _ (congrArg _ ?_)
  refine (ld_at _ _ _ k0 k1 _ _ _ k2 (by dsimp only; omega)).trans ((xblk_at m c t _ _ hb).trans ?_)
  refine congrArg _ (congrArg (ix3 _ _) (Fin.ext ?_))
  show t.val % 12 * 1024 + (q.val / 96 * 128 + q.val / 32 % 3 + n.val)
    = q.val / 96 * 128 + q.val / 32 % 3 + (t.val % 12 * 1024 + n.val)
  omega

/-- The result array after the last grid point. -/
theorem final : (dats m 0 c).arrAt 2 (cfgs 0).N = G m c := by
  refine (dats m 0 c).arrAt_eq_of_covers 2 _ (by decide +kernel) fun t hf y => ?_
  blk_simp
  rw [after0_2]
  unfold outsAt0
  frame_out
  have ht : t.val < 96 := t.isLt
  have hy : y = (ix3 0 ⟨(y 1).val, (y 1).isLt⟩ ⟨(y 2).val, (y 2).isLt⟩ : S1x64x1024.Idx) := by
    funext a
    match a with
    | ⟨0, _⟩ => exact Fin.ext (Nat.lt_one_iff.mp (y 0).isLt)
    | ⟨1, _⟩ => rfl
    | ⟨2, _⟩ => rfl
  have h2 : (y 2).val < 1024 := (y 2).isLt
  rw [hy]
  refine (block_at m c t _ _ (by omega) (by dsimp only; omega)).trans (congrArg _ ?_)
  exact (emb_at t _ _ (by omega) (by dsimp only; omega)).symm

end Cert.Proof.KernelArray

end
-- ==== Proof.KernelEntry.lean ====
/-
  What the grid finds: the values with the weights in the kernel's order, and the padded input row after row.
-/
module

public import proofs.«01_k».proof.Proof.Gen.KernelIdeal.Frame
public import proofs.«01_k».proof.Proof.KernelArray
public import Idealize.ShloMosaic.Lib.StableHlo.ReadAt

@[expose] public section

set_option maxRecDepth 16384

noncomputable section

namespace Cert.Proof.KernelEntry

open Idealize.ShloMosaic Idealize.ShloMosaic.TcCoe Idealize.SL.Sem
open Cert.KernelIdeal Cert.KernelIdeal.Gen Cert.Proof.KernelArray

variable (m : (ℓ : Loc nD τ sig) → Buf (Elt Ideal) ℓ) (c : Dev nD)

/-- The input and the values that the program was given. -/
abbrev argX : ShX.Idx → EReal := m ((c.tc : Thread nD τ).loc main_arg0)
abbrev argV : ShW.Idx → EReal := m ((c.tc : Thread nD τ).loc main_arg2)

/-- The kernel's weight `q` is weight `perm q` of the reference: the kernel has the channel innermost. -/
def perm (q : Fin 288) : Fin 288 := ⟨q.val % 32 * 9 + q.val / 32, by omega⟩

/-- The values as the grid finds them. -/
theorem w_entry (p : Fin 3) (o : Fin 64) (q : Fin 288) :
    wArr m c (ix3 p o q) = wAt (argV m c) o (perm q) p := by
  unfold wArr V V0
  simp only [List.flatten_cons, List.flatten_nil, List.append_nil, List.cons_append, List.nil_append, hostOps0, hostOps0_1, hostOps0_2, hostOps0_3]
  after_reads_at
  unfold wAt perm
  refine congrArg _ ?_
  have hq := q.isLt
  have e1 : (q.val % 32 * 9 + q.val / 32) / 9 = q.val % 32 := by omega
  have e2 : (q.val % 32 * 9 + q.val / 32) / 3 % 3 = q.val / 96 := by
    have h : q.val / 96 = q.val / 32 / 3 := by omega
    have ht : q.val / 32 < 9 := by omega
    rw [h]
    generalize q.val % 32 = i at *
    generalize q.val / 32 = t at *
    omega
  have e3 : (q.val % 32 * 9 + q.val / 32) % 3 = q.val / 32 % 3 := by omega
  funext a
  match a with
  | ⟨0, _⟩ => rfl
  | ⟨1, _⟩ => exact Fin.ext e1.symm
  | ⟨2, _⟩ => exact Fin.ext e2.symm
  | ⟨3, _⟩ => exact Fin.ext e3.symm
  | ⟨4, _⟩ => rfl

/-- The padded input as the grid finds it: lane `l` is row `l / 128`, column `l % 128`. The 128 lanes past the last row are the
    border's zero, as row 98 would be. -/
theorem x_entry (b : Fin 8) (i : Fin 32) (l : Fin 12672) :
    xArr m c (ix3 b i l) = padded (argX m c) b i (l.val / 128) (l.val % 128) := by
  unfold xArr V V0
  simp only [List.flatten_cons, List.flatten_nil, List.append_nil, List.cons_append, List.nil_append, hostOps0, hostOps0_1, hostOps0_2, hostOps0_3]
  after_reads_at
  have hz : (FloatOps.sitofp FTy.f32 0#32 : Ideal .f32) = 0 := by
    show (((0#32 : BitVec 32).toInt : ℝ) : EReal) = 0
    simp
  by_cases h2 : (1 ≤ l.val / 128 ∧ l.val / 128 - 1 < 96) ∧ 1 ≤ l.val % 128 ∧ l.val % 128 - 1 < 96
  · have h1 : l.val < 12544 := by omega
    refine (dif_pos h1).trans ((dif_pos h2).trans ?_)
    exact (padded_in _ _ _ h2).symm
  · refine Eq.trans ?_ (padded_out _ _ _ h2).symm
    by_cases h1 : l.val < 12544
    · exact (dif_pos h1).trans ((dif_neg h2).trans hz)
    · exact (dif_neg h1).trans hz

end Cert.Proof.KernelEntry

end
-- ==== Proof.KernelRun.lean ====
/-
  The kernel's run: its result at an index, and the arguments unchanged.
-/
module

public import proofs.«01_k».proof.Proof.KernelEntry
public import Idealize.ShloMosaic.Lib.Pipeline.FrameSuffix

@[expose] public section

set_option maxRecDepth 16384

noncomputable section

namespace Cert.Proof.KernelRun

open Idealize.ShloMosaic Idealize.ShloMosaic.TcCoe Idealize.SL.Sem
open Cert.KernelIdeal Cert.KernelIdeal.Gen Cert.Proof.KernelArray Cert.Proof.KernelEntry

variable (m : (ℓ : Loc nD τ sig) → Buf (Elt Ideal) ℓ) (ρ : Dev nD → PrngReg) (c : Dev nD)

/-- What the host's last operations leave as the result. -/
abbrev out : S8x64x96x96.Idx → EReal := Pipeline.afterTail₀ cfgs (dats m) 0 (V0 m) [hostOps1] c main_v7

/-- The host cuts the 128 lanes of a row back to 96. -/
theorem out_at (b : Fin 8) (o : Fin 64) (h w : Fin 96) :
    out m c (ix4 b o h w) = G m c (ix3 b o ⟨h.val * 128 + w.val, by omega⟩) := by
  have hG := congrFun (final m c) (ix3 b o ⟨h.val * 128 + w.val, by omega⟩)
  refine Eq.trans ?_ hG
  unfold out Pipeline.afterTail₀
  simp only [List.flatten_cons, List.flatten_nil, List.append_nil, hostOps1]
  after_reads_at
  exact congrFun (Pipeline.withArrays_arr (cfgs 0).spec (by decide : Function.Injective (Pipeline.arrRef (cfgs 0).spec)) c (V0 m c)
    (fun w => (dats m 0 c).arrAt w (cfgs 0).N) 2) _

/-- The run: the result and the arguments. -/
theorem run : θ_run defs (onTc (τ := τ) (main (F := Ideal))) ⟨m, fun _ => 0, ρ⟩ fun r => ∀ c : Dev nD,
      r.2.mem ((c.tc : Thread nD τ).loc main_v7) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).2 main_v7 (Pipeline.mem_restRefs_of main_v7 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- THE KERNEL'S RESULT at batch entry `b`, channel `o`, row `h`, column `w`: the middle values summed, and the half
    differences of the outer values times the clipped input. -/
theorem kernel_at (b : Fin 8) (o : Fin 64) (h w : Fin 96) :
    out m c (ix4 b o h w)
      = (∑ q : Fin 288, wAt (argV m c) o (perm q) 1)
        + ∑ q : Fin 288, KernelPay.half * (wAt (argV m c) o (perm q) 2 - wAt (argV m c) o (perm q) 0)
            * KernelPay.clip (tap (argX m c) b (perm q) h.val w.val) := by
  refine (out_at m c b o h w).trans ?_
  unfold G
  refine congrArg₂ (· + ·) (Finset.sum_congr rfl fun q _ => w_entry m c 1 o q) (Finset.sum_congr rfl fun q _ => ?_)
  refine congrArg₂ (· * ·) (congrArg _ (congrArg₂ (· - ·) (w_entry m c 2 o q) (w_entry m c 0 o q))) (congrArg _ ?_)
  refine (x_entry m c _ _ _).trans ?_
  have hq := q.isLt
  have hw := w.isLt
  have e1 : (q.val % 32 * 9 + q.val / 32) / 9 = q.val % 32 := by omega
  have e2 : (q.val % 32 * 9 + q.val / 32) / 3 % 3 = q.val / 96 := by
    have h : q.val / 96 = q.val / 32 / 3 := by omega
    have ht : q.val / 32 < 9 := by omega
    rw [h]
    generalize q.val % 32 = i at *
    generalize q.val / 32 = t at *
    omega
  have e3 : (q.val % 32 * 9 + q.val / 32) % 3 = q.val / 32 % 3 := by omega
  have a1 : (q.val / 96 * 128 + q.val / 32 % 3 + (h.val * 128 + w.val)) / 128 = h.val + q.val / 96 := by omega
  have a2 : (q.val / 96 * 128 + q.val / 32 % 3 + (h.val * 128 + w.val)) % 128 = w.val + q.val / 32 % 3 := by omega
  have hc : (⟨q.val % 32, by omega⟩ : Fin 32) = ⟨(perm q).val / 9, by omega⟩ := Fin.ext e1.symm
  unfold tap
  show padded _ b (⟨q.val % 32, by omega⟩ : Fin 32) ((q.val / 96 * 128 + q.val / 32 % 3 + (h.val * 128 + w.val)) / 128)
      ((q.val / 96 * 128 + q.val / 32 % 3 + (h.val * 128 + w.val)) % 128)
    = padded _ b _ (h.val + (q.val % 32 * 9 + q.val / 32) / 3 % 3) (w.val + (q.val % 32 * 9 + q.val / 32) % 3)
  rw [a1, a2, e2, e3, hc]

end Cert.Proof.KernelRun

end
-- ==== Proof.Equal.lean ====
/-
  The equation: the reference's sum over the weights is the kernel's two sums.
-/
module

public import proofs.«01_k».proof.Proof.Piece
public import proofs.«01_k».proof.Proof.Pre
public import proofs.«01_k».proof.Proof.KernelRun

@[expose] public section

set_option maxRecDepth 16384

noncomputable section

namespace Cert.Proof.Equal

open Idealize.ShloMosaic
open Cert.Proof.KernelEntry (perm)

/-- No two of the kernel's weights are the same weight. -/
theorem perm_injective : Function.Injective perm := by
  intro q q' h
  have h' : q.val % 32 * 9 + q.val / 32 = q'.val % 32 * 9 + q'.val / 32 := congrArg Fin.val h
  have hq := q.isLt
  have hq' := q'.isLt
  exact Fin.ext (by omega)

/-- The kernel's order of the weights against the reference's. -/
theorem perm_bijective : Function.Bijective perm := Finite.injective_iff_bijective.mp perm_injective

/-- A sum over the weights in either order. -/
theorem sum_perm (f : Fin 288 → EReal) : ∑ k : Fin 288, f k = ∑ q : Fin 288, f (perm q) :=
  (perm_bijective.sum_comp f).symm

theorem equal (X : ShX.Idx → EReal) (P V : ShW.Idx → EReal) (hpre : Cert.Pre_ramps.fn (F := Ideal) X P V = fun _ => 1#1)
    (b : Fin 8) (o : Fin 64) (h w : ℕ) :
    (∑ q : Fin 288, wAt V o (perm q) 1)
        + (∑ q : Fin 288, KernelPay.half * (wAt V o (perm q) 2 - wAt V o (perm q) 0) * KernelPay.clip (tap X b (perm q) h w))
      = ∑ k : Fin 288, RefSum.piece (tap X b k h w) (wAt P o k 0) (wAt P o k 1) (wAt P o k 2) (wAt V o k 0)
          (RefEntry.slope (wAt V o k 1 - wAt V o k 0) (wAt P o k 1 - wAt P o k 0))
          (RefEntry.slope (wAt V o k 2 - wAt V o k 1) (wAt P o k 2 - wAt P o k 1)) := by
  have e : ∀ k : Fin 288, RefSum.piece (tap X b k h w) (wAt P o k 0) (wAt P o k 1) (wAt P o k 2) (wAt V o k 0)
          (RefEntry.slope (wAt V o k 1 - wAt V o k 0) (wAt P o k 1 - wAt P o k 0))
          (RefEntry.slope (wAt V o k 2 - wAt V o k 1) (wAt P o k 2 - wAt P o k 1))
      = wAt V o k 1 + KernelPay.half * (wAt V o k 2 - wAt V o k 0) * KernelPay.clip (tap X b k h w) := by
    intro k
    obtain ⟨p0, p1, p2, hm, ⟨a, ha⟩, ⟨d, hd⟩⟩ := Pre.pre_at X P V hpre o k
    rw [ha, hd] at hm
    rw [p0, p1, p2, ha, hd]
    exact Piece.piece_real (tap X b k h w) a d _ hm
  rw [Finset.sum_congr rfl fun k _ => e k, Finset.sum_add_distrib, sum_perm fun k => wAt V o k 1,
    sum_perm fun k => KernelPay.half * (wAt V o k 2 - wAt V o k 0) * KernelPay.clip (tap X b k h w)]

end Cert.Proof.Equal

end
-- ==== Proof.lean ====
/-
  The claims: every program terminates with its arguments unchanged and its semaphores at zero, and the kernel's result
  is the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_ramps
public import proofs.«01_k».proof.Proof.Equal
public import Idealize.ShloMosaic.Lib.Quiescent

@[expose] public section

set_option maxRecDepth 16384

noncomputable section

namespace Cert.Proof

open Idealize.ShloMosaic Idealize.SL.Sem

/-- The reference terminates with its arguments unchanged; it has no semaphores. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems rfl r.2⟩) (Cert.ReferenceIdeal.Value.run m g)

open Cert.ReferenceIdeal in
/-- The two results are one array. -/
theorem results (m : (ℓ : Loc Cert.KernelIdeal.nD Cert.KernelIdeal.τ Cert.KernelIdeal.sig) → Buf (Elt Ideal) ℓ)
    (m' : (ℓ : Loc nD τ sig) → Buf (Elt Ideal) ℓ) (c : Dev Cert.KernelIdeal.nD)
    (hpre : Cert.Pre_ramps.fn (F := Ideal) (KernelEntry.argX m c) (RefEntry.argP m' c) (KernelEntry.argV m c) = fun _ => 1#1)
    (hx : RefEntry.argX m' c = KernelEntry.argX m c) (hv : RefEntry.argV m' c = KernelEntry.argV m c) :
    Value.out_main_v42 (F := Ideal) (Value.STEP^[288] (StableHlo.entryContents Value.preI m' c)) = KernelRun.out m c := by
  funext y
  have hy : y = (ix4 ⟨(y 0).val, (y 0).isLt⟩ ⟨(y 1).val, (y 1).isLt⟩ ⟨(y 2).val, (y 2).isLt⟩ ⟨(y 3).val, (y 3).isLt⟩ : S8x64x96x96.Idx) := by
    funext a
    match a with
    | ⟨0, _⟩ => rfl
    | ⟨1, _⟩ => rfl
    | ⟨2, _⟩ => rfl
    | ⟨3, _⟩ => rfl
  rw [hy]
  refine (RefSum.ref_at m' c _ _ _ _).trans (Eq.trans ?_ (KernelRun.kernel_at m c _ _ _ _).symm)
  rw [hx, hv]
  exact (Equal.equal _ _ _ hpre _ _ _ _).symm

theorem claim : Cert.Claim := by
  refine ⟨Cert.Kernel.Gen.facts, Cert.KernelIdeal.Gen.facts, Cert.ReferenceIdeal.Gen.facts, Cert.Pre_ramps.Gen.facts,
    fun m g _ => Cert.Kernel.Gen.frame m g, fun m g _ => Cert.KernelIdeal.Gen.frame m g, fun m g _ => Cert.KernelIdeal.Gen.frame m g,
    fun m g _ => ref_frame m g, fun m g _ => ref_frame m g, trivial, ?_⟩
  intro m g m' g' hpre hargs
  refine ⟨fun c => KernelRun.out m c, KernelRun.run m g, ?_⟩
  refine (θ_run _ _ _).mono (fun r h c => ?_) (Cert.ReferenceIdeal.Value.run m' g')
  refine ⟨(h c).1.trans (results m m' c ?_ (hargs c).1 (hargs c).2.2), (h c).2⟩
  have e : RefEntry.argP m' c = m ((c.tc : Thread Cert.KernelIdeal.nD Cert.KernelIdeal.τ).loc Cert.KernelIdeal.main_arg1) := (hargs c).2.1
  rw [e]
  exact hpre c

end Cert.Proof

end
